-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_atoms_in_order [hPre_atoms_in_order : Cert.Pre_atoms_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_atoms_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_atoms_in_order [hPre_atoms_in_order : Cert.Pre_atoms_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_atoms_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_atoms_in_order [hKernelIdeal : Cert.KernelIdeal.Facts] [hPre_atoms_in_order : Cert.Pre_atoms_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_atoms_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_atoms_in_order [hReferenceIdeal : Cert.ReferenceIdeal.Facts] [hPre_atoms_in_order : Cert.Pre_atoms_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_atoms_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "thr2" .f32 0x42440000#32 ((112986307451468697805 / 2305843009213693952 : ℝ) : EReal)

def algebraic_KernelIdeal_ReferenceIdeal_on_compared_pre_atoms_in_order [hKernelIdeal : Cert.KernelIdeal.Facts] [hReferenceIdeal : Cert.ReferenceIdeal.Facts] [hPre_atoms_in_order : Cert.Pre_atoms_in_order.Facts] [hOn_compared : Cert.On_compared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_atoms_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 4096]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v1) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 4096]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v24) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_atoms_in_order : Cert.Pre_atoms_in_order.Facts) (hOn_compared : Cert.On_compared.Facts),
    quiescent_Kernel (hKernel := hKernel)
    ∧ quiescent_KernelIdeal (hKernelIdeal := hKernelIdeal)
    ∧ quiescent_KernelIdeal_pre_atoms_in_order (hKernelIdeal := hKernelIdeal) (hPre_atoms_in_order := hPre_atoms_in_order)
    ∧ quiescent_ReferenceIdeal (hReferenceIdeal := hReferenceIdeal)
    ∧ quiescent_ReferenceIdeal_pre_atoms_in_order (hReferenceIdeal := hReferenceIdeal) (hPre_atoms_in_order := hPre_atoms_in_order)
    ∧ preserves_Kernel_KernelIdeal
    ∧ algebraic_KernelIdeal_ReferenceIdeal_on_compared_pre_atoms_in_order (hKernelIdeal := hKernelIdeal) (hReferenceIdeal := hReferenceIdeal) (hPre_atoms_in_order := hPre_atoms_in_order) (hOn_compared := hOn_compared)
-- ==== On_compared.lean ====
abbrev S4096x3 : Shape := ⟨2, ![4096, 3]⟩
abbrev S4096 : Shape := ⟨1, ![4096]⟩
abbrev S4096x1 : Shape := ⟨2, ![4096, 1]⟩
abbrev S_ : Shape := ⟨0, ![]⟩
abbrev S1x4096 : Shape := ⟨2, ![1, 4096]⟩
abbrev S4096x4096 : Shape := ⟨2, ![4096, 4096]⟩

class Facts : Prop where
  slices_S4096x3_S4096x1_0_0 : S4096x3.Slices ![0, 0] S4096x1
  shapeCasts_S4096x1_S4096 : S4096x1.ShapeCasts S4096
  bcast_S_S4096 : S_.BroadcastsInDim S4096 (![] : Fin 0 → Fin S4096.rank)
  bcast_S_S4096x3 : S_.BroadcastsInDim S4096x3 (![] : Fin 0 → Fin S4096x3.rank)
  reducesTo_S4096x3_S4096_d1 : S4096x3.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)

variable [Facts]

def fn_part1 {F : FTy → Type} [FloatOps F] (main_v0 : IVec S4096 32) (main_v15 : IVec S4096x4096 1) (main_v18 : IVec S4096x4096 1) (main_v19 : IVec S4096x4096 1) : IVec S4096x4096 1 :=
  let main_v20 : IVec S4096x4096 1 := andi main_v18 main_v19
  let main_v21 : IVec S4096x1 32 := broadcastInDim S4096x1 ![0] bcast_S4096_S4096x1_0 main_v0
  let main_v22 : IVec S1x4096 32 := broadcastInDim S1x4096 ![1] bcast_S4096_S1x4096_1 main_v0
  let main_v23 : IVec S4096x4096 32 := broadcastInDim S4096x4096 ![0, 1] bcast_S4096x1_S4096x4096_0_1 main_v21
  let main_v24 : IVec S4096x4096 32 := broadcastInDim S4096x4096 ![0, 1] bcast_S1x4096_S4096x4096_0_1 main_v22
  let main_v25 : IVec S4096x4096 1 := cmpi .ne main_v23 main_v24
  let main_v26 : IVec S4096x4096 1 := andi main_v20 main_v25
  let main_v27 : IVec S4096x4096 1 := ori main_v15 main_v26
  main_v27

def fn {F : FTy → Type} [FloatOps F] (main_arg0 : FVec F S4096x3 .f32) (main_arg1 : IVec S4096 32) : IVec S4096x4096 1 :=
  let main_v0 : IVec S4096 32 := iotaInDim S4096 32 0
  let main_v1 : FVec F S4096x1 .f32 := (extractStridedSlice S4096x1 ![0, 0] · slices_S4096x3_S4096x1_0_0) main_arg0
  let main_v2 : FVec F S4096 .f32 := shapeCast S4096 main_v1 shapeCasts_S4096x1_S4096
  let main_cst : FVec F S_ .f32 := constant S_ .f32 0x4479C000#32
  let main_v3 : FVec F S4096 .f32 := broadcastInDim S4096 ![] bcast_S_S4096 main_cst
  let main_v4 : IVec S4096 1 := cmpf .une main_v2 main_v3
  let main_cst_0 : FVec F S_ .f32 := constant S_ .f32 0x43410000#32
  let main_v5 : FVec F S4096x3 .f32 := broadcastInDim S4096x3 ![] bcast_S_S4096x3 main_cst_0
  let main_v6 : IVec S4096x3 1 := cmpf .olt main_arg0 main_v5
  let main_cst_1 : FVec F S_ .f32 := constant S_ .f32 0x43B28000#32
  let main_v7 : FVec F S4096x3 .f32 := broadcastInDim S4096x3 ![] bcast_S_S4096x3 main_cst_1
  let main_v8 : IVec S4096x3 1 := cmpf .ogt main_arg0 main_v7
  let main_v9 : IVec S4096x3 1 := ori main_v6 main_v8
  let main_c : IVec S_ 1 := constantI S_ 1 0#1
  let main_v10 : IVec S4096 1 := (fun x v => Host.reduce IntOp.ori x v reducesTo_S4096x3_S4096_d1 h_S_) main_v9 main_c
  let main_v11 : IVec S4096x1 1 := broadcastInDim S4096x1 ![0] bcast_S4096_S4096x1_0 main_v4
  let main_v12 : IVec S1x4096 1 := broadcastInDim S1x4096 ![1] bcast_S4096_S1x4096_1 main_v4
  let main_v13 : IVec S4096x4096 1 := broadcastInDim S4096x4096 ![0, 1] bcast_S4096x1_S4096x4096_0_1 main_v11
  let main_v14 : IVec S4096x4096 1 := broadcastInDim S4096x4096 ![0, 1] bcast_S1x4096_S4096x4096_0_1 main_v12
  let main_v15 : IVec S4096x4096 1 := andi main_v13 main_v14
  let main_v16 : IVec S4096x1 1 := broadcastInDim S4096x1 ![0] bcast_S4096_S4096x1_0 main_v10
  let main_v17 : IVec S1x4096 1 := broadcastInDim S1x4096 ![1] bcast_S4096_S1x4096_1 main_v10
  let main_v18 : IVec S4096x4096 1 := broadcastInDim S4096x4096 ![0, 1] bcast_S4096x1_S4096x4096_0_1 main_v16
  let main_v19 : IVec S4096x4096 1 := broadcastInDim S4096x4096 ![0, 1] bcast_S1x4096_S4096x4096_0_1 main_v17
  fn_part1 (F := F) main_v0 main_v15 main_v18 main_v19
-- ==== Pre_atoms_in_order.lean ====
abbrev S4096x3 : Shape := ⟨2, ![4096, 3]⟩
abbrev S4096 : Shape := ⟨1, ![4096]⟩
abbrev S_ : Shape := ⟨0, ![]⟩

class Facts : Prop where
  reducesTo_S4096_S_d0 : S4096.ReducesTo [0] S_
  h_S_ : 0 < S_.numel

variable [Facts]

def fn {F : FTy → Type} [FloatOps F] (main_arg0 : FVec F S4096x3 .f32) (main_arg1 : IVec S4096 32) : IVec S_ 1 :=
  let main_v0 : IVec S4096 32 := iotaInDim S4096 32 0
  let main_v1 : IVec S4096 1 := cmpi .eq main_arg1 main_v0
  let main_c : IVec S_ 1 := constantI S_ 1 1#1
  let main_v2 : IVec S_ 1 := (fun x v => Host.reduce IntOp.andi x v reducesTo_S4096_S_d0 h_S_) main_v1 main_c
  main_v2
-- ==== Kernel.lean ====
abbrev S4096x3 : Shape := ⟨2, ![4096, 3]⟩
abbrev S4096 : Shape := ⟨1, ![4096]⟩
abbrev S3x4096 : Shape := ⟨2, ![3, 4096]⟩
abbrev S4096x4096 : Shape := ⟨2, ![4096, 4096]⟩
abbrev S256x3 : Shape := ⟨2, ![256, 3]⟩
abbrev S256x4096 : Shape := ⟨2, ![256, 4096]⟩
abbrev S256x1 : Shape := ⟨2, ![256, 1]⟩
abbrev S1x4096 : Shape := ⟨2, ![1, 4096]⟩

abbrev nBuf : Space → Nat
  | .hbm => 4
  | .vmem => 5
  | .smem => 0
  | _ => 0

abbrev bufTy : (tb : Table) → Fin (tcTables nBuf tb) → BufTy
  | .hbm, ⟨0, _⟩ => ⟨S4096x3, .f32⟩
  | .hbm, ⟨1, _⟩ => ⟨S4096, .i32⟩
  | .hbm, ⟨2, _⟩ => ⟨S3x4096, .f32⟩
  | .hbm, ⟨3, _⟩ => ⟨S4096x4096, .f32⟩
  | .local _ .vmem, ⟨0, _⟩ => ⟨S256x3, .f32⟩
  | .local _ .vmem, ⟨1, _⟩ => ⟨S256x3, .f32⟩
  | .local _ .vmem, ⟨2, _⟩ => ⟨S3x4096, .f32⟩
  | .local _ .vmem, ⟨3, _⟩ => ⟨S256x4096, .f32⟩
  | .local _ .vmem, ⟨4, _⟩ => ⟨S256x4096, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "thr2" => some ((112986307451468697805 / 2305843009213693952 : ℝ) : EReal)
  | _ => none
-- ==== ReferenceIdeal.lean ====
abbrev S4096x3 : Shape := ⟨2, ![4096, 3]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S4096x4096 : Shape := ⟨2, ![4096, 4096]⟩
abbrev S1x4096 : Shape := ⟨2, ![1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S1x1, .i32⟩
  | .hbm, ⟨15, _⟩ => ⟨S4096x1, .i32⟩
  | .hbm, ⟨16, _⟩ => ⟨S4096x1, .i1⟩
  | .hbm, ⟨17, _⟩ => ⟨S4096x1, .i1⟩
  | .hbm, ⟨18, _⟩ => ⟨S_, .i1⟩
  | .hbm, ⟨19, _⟩ => ⟨S4096, .i1⟩
  | .hbm, ⟨20, _⟩ => ⟨S4096x3, .f32⟩
  | .hbm, ⟨21, _⟩ => ⟨S4096x3, .i1⟩
  | .hbm, ⟨22, _⟩ => ⟨S_, .f32⟩
  | .hbm, ⟨23, _⟩ => ⟨S4096x3, .f32⟩
  | .hbm, ⟨24, _⟩ => ⟨S4096x3, .f32⟩
  | .hbm, ⟨25, _⟩ => ⟨S4096x1x3, .f32⟩
  | .hbm, ⟨26, _⟩ => ⟨S1x4096x3, .f32⟩
  | .hbm, ⟨27, _⟩ => ⟨S4096x4096x3, .f32⟩
  | .hbm, ⟨28, _⟩ => ⟨S4096x4096x3, .f32⟩
  | .hbm, ⟨29, _⟩ => ⟨S4096x4096x3, .f32⟩
  | .hbm, ⟨30, _⟩ => ⟨S4096x4096x3, .f32⟩
  | .hbm, ⟨31, _⟩ => ⟨S_, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x1, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .i1⟩
  | .hbm, ⟨42, _⟩ => ⟨S4096x1, .i1⟩
  | .hbm, ⟨43, _⟩ => ⟨S1x4096, .i1⟩
  | .hbm, ⟨44, _⟩ => ⟨S4096x4096, .i1⟩
  | .hbm, ⟨45, _⟩ => ⟨S4096x4096, .i1⟩
  | .hbm, ⟨46, _⟩ => ⟨S4096x4096, .i1⟩
  | .hbm, ⟨47, _⟩ => ⟨S_, .f32⟩
  | .hbm, ⟨48, _⟩ => ⟨S4096x4096, .f32⟩
  | .hbm, ⟨49, _⟩ => ⟨S4096x4096, .i1⟩
  | .hbm, ⟨50, _⟩ => ⟨S4096x4096, .i1⟩
  | .hbm, ⟨51, _⟩ => ⟨S4096x4096, .f32⟩
  | .hbm, ⟨52, _⟩ => ⟨S4096x4096, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_2 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩

abbrev nD : Nat := 1
abbrev τ : Topo := Topo.v7x

variable {F : FTy → Type} [FloatOps F]
-- ==== Proof.Consts.lean ====
/-
  The float constants of the kernel, the reference and the mask, each with the real number that its word denotes.
-/
module

public import Idealize.ShloMosaic.PureOps.Ideal.Laws

@[expose] public section

noncomputable section

namespace Cert.Pairs

open Idealize.ShloMosaic

/-- The stabiliser added under the root: the float32 nearest 1e-12, exactly. -/
def eps : ℝ := 9223372 / 9223372036854775808

/-- The cutoff on the squared distance: `7² - eps`. -/
def thr2 : ℝ := 112986307451468697805 / 2305843009213693952

/-- The cutoff on the squared distance and the stabiliser add up to 49. -/
theorem thr2_add_eps : thr2 + eps = 49 := by unfold thr2 eps; norm_num

/-- The stabiliser is positive. -/
theorem eps_pos : 0 < eps := by unfold eps; norm_num

/-- The word of the stabiliser. -/
theorem word_eps : Ideal.ofBits .f32 0x2B8CBCCC#32 = ((eps : ℝ) : EReal) := by
  unfold eps; simp [Ideal.ofBits, Ideal.ieee, -EReal.coe_mul]; norm_num

/-- The word of 7. -/
theorem word_7 : Ideal.ofBits .f32 0x40E00000#32 = ((7 : ℝ) : EReal) := by
  simp [Ideal.ofBits, Ideal.ieee, -EReal.coe_mul]; norm_num

/-- The word of 10. -/
theorem word_10 : Ideal.ofBits .f32 0x41200000#32 = ((10 : ℝ) : EReal) := by
  simp [Ideal.ofBits, Ideal.ieee, -EReal.coe_mul]; norm_num

/-- The word of 193. -/
theorem word_193 : Ideal.ofBits .f32 0x43410000#32 = ((193 : ℝ) : EReal) := by
  simp [Ideal.ofBits, Ideal.ieee, -EReal.coe_mul]; norm_num

/-- The word of 200. -/
theorem word_200 : Ideal.ofBits .f32 0x43480000#32 = ((200 : ℝ) : EReal) := by
  simp [Ideal.ofBits, Ideal.ieee, -EReal.coe_mul]; norm_num

/-- The word of 357. -/
theorem word_357 : Ideal.ofBits .f32 0x43B28000#32 = ((357 : ℝ) : EReal) := by
  simp [Ideal.ofBits, Ideal.ieee, -EReal.coe_mul]; norm_num

/-- The word of 999, the padding marker. -/
theorem word_999 : Ideal.ofBits .f32 0x4479C000#32 = ((999 : ℝ) : EReal) := by
  simp [Ideal.ofBits, Ideal.ieee, -EReal.coe_mul]; norm_num

end Cert.Pairs

end
-- ==== Proof.Distance.lean ====
/-
  The mathematics of one pair of atoms over the extended reals: the squared distance, the kernel's cutoff and root against
  the reference's, and how far a lattice point is from another one and from an atom outside the lattice's cube.
-/
module

public import proofs.«01_k».proof.Proof.Consts

@[expose] public section

noncomputable section

namespace Cert.Pairs

open Idealize.ShloMosaic

/-- The squared distance of two points, summed from the left. -/
def sqDist (p q : Fin 3 → EReal) : EReal :=
  (p 0 - q 0) * (p 0 - q 0) + (p 1 - q 1) * (p 1 - q 1) + (p 2 - q 2) * (p 2 - q 2)

/-- What the kernel makes of a squared distance: the root of it plus `eps` as `s * rsqrt s` up to the cutoff, else 0. -/
def kernelCell (d : EReal) : EReal :=
  if d ≤ (thr2 : EReal) then (d + (eps : EReal)) * Ideal.rsqrt (d + (eps : EReal)) else 0

/-- The reference's entry for two atoms: the root times 1 where neither atom is padded and the root is at most 7, else times 0. -/
def refCell (x y : Fin 3 → EReal) : EReal :=
  Ideal.sqrt (sqDist x y + (eps : EReal))
    * (if (x 0 ≠ ((999 : ℝ) : EReal) ∧ y 0 ≠ ((999 : ℝ) : EReal)) ∧ Ideal.sqrt (sqDist x y + (eps : EReal)) ≤ ((7 : ℝ) : EReal)
        then 1 else 0)

/-- Atom `n`'s lattice coordinates: 200 and ten times a hexadecimal digit of `n`. -/
def lattice (n : ℕ) (k : Fin 3) : ℝ := 200 + 10 * ((![n % 16, n / 16 % 16, n / 256] k : ℕ) : ℝ)

/-- Where the kernel puts atom `n` with coordinates `x`: its lattice point if it is padded, else where it is. -/
def place (n : ℕ) (x : Fin 3 → EReal) (k : Fin 3) : EReal :=
  if x 0 = ((999 : ℝ) : EReal) then ((lattice n k : ℝ) : EReal) else x k

/-- A square of an extended real is not negative. -/
theorem sq_nonneg' (x : EReal) : 0 ≤ x * x := by
  induction x with
  | bot => simp
  | top => simp
  | coe r => exact_mod_cast mul_self_nonneg r

/-- A squared distance is not negative. -/
theorem sqDist_nonneg (p q : Fin 3 → EReal) : 0 ≤ sqDist p q :=
  add_nonneg (add_nonneg (sq_nonneg' _) (sq_nonneg' _)) (sq_nonneg' _)

/-- Each coordinate's square is at most the squared distance. -/
theorem sq_le_sqDist (p q : Fin 3 → EReal) (k : Fin 3) : (p k - q k) * (p k - q k) ≤ sqDist p q := by
  have h0 := sq_nonneg' (p 0 - q 0)
  have h1 := sq_nonneg' (p 1 - q 1)
  have h2 := sq_nonneg' (p 2 - q 2)
  unfold sqDist
  match k with
  | 0 => exact (le_add_of_nonneg_right h1).trans (le_add_of_nonneg_right h2)
  | 1 => exact (le_add_of_nonneg_left h0).trans (le_add_of_nonneg_right h2)
  | 2 => exact le_add_of_nonneg_left (add_nonneg h0 h1)

/-- A number at least 7 or at most -7 has a square of at least 49. -/
theorem sq_ge (x : EReal) (h : ((7 : ℝ) : EReal) ≤ x ∨ x ≤ ((-7 : ℝ) : EReal)) : ((49 : ℝ) : EReal) ≤ x * x := by
  induction x with
  | bot => simp
  | top => simp
  | coe r =>
    have h' : (7 : ℝ) ≤ r ∨ r ≤ -7 := h.imp EReal.coe_le_coe_iff.1 EReal.coe_le_coe_iff.1
    rw [← EReal.coe_mul]
    refine EReal.coe_le_coe_iff.2 ?_
    rcases h' with h' | h' <;> nlinarith

/-- Two points that differ by at least 7 in a coordinate are past the cutoff: the kernel leaves 0. -/
theorem kernelCell_far (p q : Fin 3 → EReal) (k : Fin 3)
    (h : ((7 : ℝ) : EReal) ≤ p k - q k ∨ p k - q k ≤ ((-7 : ℝ) : EReal)) : kernelCell (sqDist p q) = 0 := by
  have h49 : ((49 : ℝ) : EReal) ≤ sqDist p q := (sq_ge _ h).trans (sq_le_sqDist p q k)
  have hlt : ((thr2 : ℝ) : EReal) < ((49 : ℝ) : EReal) :=
    EReal.coe_lt_coe_iff.2 (by have := thr2_add_eps; have := eps_pos; linarith)
  exact if_neg (not_le.2 (hlt.trans_le h49))

/-- Of a squared distance, the root of it plus `eps` is at most 7 exactly up to the kernel's cutoff. -/
theorem root_le_iff (d : EReal) (h : 0 ≤ d) :
    Ideal.sqrt (d + (eps : EReal)) ≤ ((7 : ℝ) : EReal) ↔ d ≤ (thr2 : EReal) := by
  induction d with
  | bot => simp at h
  | top => simp
  | coe r =>
    have hr : 0 ≤ r := by exact_mod_cast h
    have he := eps_pos
    have ht := thr2_add_eps
    rw [← EReal.coe_add, Ideal.sqrt_coe, if_neg (by linarith), EReal.coe_le_coe_iff, EReal.coe_le_coe_iff, Real.sqrt_le_left (by norm_num)]
    constructor <;> intro <;> linarith

/-- Of a squared distance up to the cutoff, the kernel's `s * rsqrt s` is the root of `s`. -/
theorem mul_rsqrt (d : EReal) (h : 0 ≤ d) (h' : d ≤ (thr2 : EReal)) :
    (d + (eps : EReal)) * Ideal.rsqrt (d + (eps : EReal)) = Ideal.sqrt (d + (eps : EReal)) := by
  induction d with
  | bot => simp at h
  | top => simp at h'
  | coe r =>
    have hr : 0 ≤ r := by exact_mod_cast h
    have hs : 0 < r + eps := by linarith [eps_pos]
    rw [← EReal.coe_add, Ideal.sqrt_coe, Ideal.rsqrt_coe, if_neg (by linarith), if_neg (by linarith), if_neg (by linarith), ← EReal.coe_mul]
    congr 1
    rw [← div_eq_mul_inv, Real.div_sqrt]

/-- Two atoms that are not padded: the kernel's entry is the reference's, whatever their coordinates. -/
theorem cell_real (x y : Fin 3 → EReal) (hx : x 0 ≠ ((999 : ℝ) : EReal)) (hy : y 0 ≠ ((999 : ℝ) : EReal)) :
    kernelCell (sqDist x y) = refCell x y := by
  have hd := sqDist_nonneg x y
  unfold kernelCell refCell
  by_cases h : sqDist x y ≤ (thr2 : EReal)
  · rw [if_pos h, if_pos ⟨⟨hx, hy⟩, (root_le_iff _ hd).2 h⟩, mul_one, mul_rsqrt _ hd h]
  · rw [if_neg h, if_neg (fun h' => h ((root_le_iff _ hd).1 h'.2)), mul_zero]

/-- A padded atom: the reference's entry is 0. -/
theorem refCell_padded (x y : Fin 3 → EReal) (h : x 0 = ((999 : ℝ) : EReal) ∨ y 0 = ((999 : ℝ) : EReal)) :
    refCell x y = 0 := by
  unfold refCell
  rw [if_neg (fun h' => h.elim h'.1.1 h'.1.2), mul_zero]

/-- Lattice coordinates of atoms below 4096 lie between 200 and 350. -/
theorem lattice_mem (n : ℕ) (hn : n < 4096) (k : Fin 3) : 200 ≤ lattice n k ∧ lattice n k ≤ 350 := by
  have key : ∀ a : ℕ, a ≤ 15 → (200 : ℝ) ≤ 200 + 10 * (a : ℝ) ∧ (200 : ℝ) + 10 * (a : ℝ) ≤ 350 := fun a ha => by
    have h0 : (0 : ℝ) ≤ a := Nat.cast_nonneg a
    have h1 : (a : ℝ) ≤ 15 := by exact_mod_cast ha
    constructor <;> linarith
  unfold lattice
  match k with
  | 0 => exact key (n % 16) (by omega)
  | 1 => exact key (n / 16 % 16) (by omega)
  | 2 => exact key (n / 256) (by omega)

/-- Different naturals give multiples of ten at least 7 apart. -/
theorem ten_apart (a b : ℕ) (h : a ≠ b) :
    (7 : ℝ) ≤ (200 + 10 * (a : ℝ)) - (200 + 10 * (b : ℝ)) ∨ (200 + 10 * (a : ℝ)) - (200 + 10 * (b : ℝ)) ≤ (-7 : ℝ) := by
  rcases Nat.lt_or_gt_of_ne h with h | h
  · have : (a : ℝ) + 1 ≤ b := by exact_mod_cast h
    right; linarith
  · have : (b : ℝ) + 1 ≤ a := by exact_mod_cast h
    left; linarith

/-- Different atoms have lattice points at least 7 apart in some coordinate. -/
theorem lattice_apart (n n' : ℕ) (h : n ≠ n') :
    ∃ k, (7 : ℝ) ≤ lattice n k - lattice n' k ∨ lattice n k - lattice n' k ≤ (-7 : ℝ) := by
  by_cases h0 : n % 16 = n' % 16
  · by_cases h1 : n / 16 % 16 = n' / 16 % 16
    · exact ⟨2, ten_apart (n / 256) (n' / 256) (by omega)⟩
    · exact ⟨1, ten_apart (n / 16 % 16) (n' / 16 % 16) h1⟩
  · exact ⟨0, ten_apart (n % 16) (n' % 16) h0⟩

/-- A number below 193 or above 357 is at least 7 from a number between 200 and 350, seen from the latter, -/
theorem apart_left (a : ℝ) (x : EReal) (ha : 200 ≤ a ∧ a ≤ 350) (h : x < ((193 : ℝ) : EReal) ∨ ((357 : ℝ) : EReal) < x) :
    ((7 : ℝ) : EReal) ≤ (a : EReal) - x ∨ (a : EReal) - x ≤ ((-7 : ℝ) : EReal) := by
  induction x with
  | bot => left; simp
  | top => right; simp
  | coe r =>
    rw [← EReal.coe_sub]
    rcases h with h | h
    · have := EReal.coe_lt_coe_iff.1 h
      exact Or.inl (EReal.coe_le_coe_iff.2 (by linarith [ha.1]))
    · have := EReal.coe_lt_coe_iff.1 h
      exact Or.inr (EReal.coe_le_coe_iff.2 (by linarith [ha.2]))

/-- and seen from the former. -/
theorem apart_right (a : ℝ) (x : EReal) (ha : 200 ≤ a ∧ a ≤ 350) (h : x < ((193 : ℝ) : EReal) ∨ ((357 : ℝ) : EReal) < x) :
    ((7 : ℝ) : EReal) ≤ x - (a : EReal) ∨ x - (a : EReal) ≤ ((-7 : ℝ) : EReal) := by
  induction x with
  | bot => right; simp
  | top => left; simp
  | coe r =>
    rw [← EReal.coe_sub]
    rcases h with h | h
    · have := EReal.coe_lt_coe_iff.1 h
      exact Or.inr (EReal.coe_le_coe_iff.2 (by linarith [ha.1]))
    · have := EReal.coe_lt_coe_iff.1 h
      exact Or.inl (EReal.coe_le_coe_iff.2 (by linarith [ha.2]))

/-- An atom that is not padded stays where it is. -/
theorem place_real (n : ℕ) (x : Fin 3 → EReal) (h : x 0 ≠ ((999 : ℝ) : EReal)) : place n x = x :=
  funext fun _ => if_neg h

/-- A padded atom goes to its lattice point. -/
theorem place_padded (n : ℕ) (x : Fin 3 → EReal) (h : x 0 = ((999 : ℝ) : EReal)) (k : Fin 3) :
    place n x k = ((lattice n k : ℝ) : EReal) :=
  if_pos h

/-- THE EQUATION OF ONE PAIR: of two atoms that are not padded, or of two different atoms both outside the cube
    [193, 357]³, the kernel's entry is the reference's. -/
theorem cell_eq (n n' : ℕ) (hn : n < 4096) (hn' : n' < 4096) (x y : Fin 3 → EReal)
    (h : (x 0 ≠ ((999 : ℝ) : EReal) ∧ y 0 ≠ ((999 : ℝ) : EReal))
      ∨ ((∃ k, x k < ((193 : ℝ) : EReal) ∨ ((357 : ℝ) : EReal) < x k) ∧ (∃ k, y k < ((193 : ℝ) : EReal) ∨ ((357 : ℝ) : EReal) < y k)) ∧ n ≠ n') :
    kernelCell (sqDist (place n x) (place n' y)) = refCell x y := by
  by_cases hx : x 0 = ((999 : ℝ) : EReal)
  · rw [refCell_padded x y (Or.inl hx)]
    obtain ⟨⟨-, k, hk⟩, hne⟩ := h.resolve_left (fun h' => h'.1 hx)
    by_cases hy : y 0 = ((999 : ℝ) : EReal)
    · obtain ⟨j, hj⟩ := lattice_apart n n' hne
      refine kernelCell_far _ _ j ?_
      rw [place_padded n x hx, place_padded n' y hy, ← EReal.coe_sub]
      exact hj.imp EReal.coe_le_coe_iff.2 EReal.coe_le_coe_iff.2
    · refine kernelCell_far _ _ k ?_
      rw [place_padded n x hx, place_real n' y hy]
      exact apart_left _ _ (lattice_mem n hn k) hk
  · by_cases hy : y 0 = ((999 : ℝ) : EReal)
    · rw [refCell_padded x y (Or.inr hy)]
      obtain ⟨⟨⟨k, hk⟩, -⟩, -⟩ := h.resolve_left (fun h' => h'.2 hy)
      refine kernelCell_far _ _ k ?_
      rw [place_real n x hx, place_padded n' y hy]
      exact apart_right _ _ (lattice_mem n' hn' k) hk
    · rw [place_real n x hx, place_real n' y hy]
      exact cell_real x y hx hy

end Cert.Pairs

end
-- ==== Proof.Words.lean ====
/-
  The kernel's lattice points from the words of the atoms' numbers: the low four bits, the next four, and the rest, read as
  reals, are the digits that `lattice` is made of.
-/
module

public import proofs.«01_k».proof.Proof.Distance
public import Idealize.ShloMosaic.PureOps.Float

@[expose] public section

noncomputable section

namespace Cert.Pairs

open Idealize.ShloMosaic

/-- The word of the row that is `r`-th in block `t` of 256 rows. -/
theorem row_word (r t : ℕ) :
    IntOp.addi (BitVec.ofNat 32 r) (Scalar.muli (BitVec.ofNat 32 t) 256#32) = BitVec.ofNat 32 (t * 256 + r) := by
  show BitVec.ofNat 32 r + BitVec.ofNat 32 t * BitVec.ofNat 32 256 = _
  rw [BitVec.ofNat_mul_ofNat, BitVec.ofNat_add_ofNat, Nat.add_comm]

/-- A word whose unsigned value is a small number is read as that number. -/
theorem real_of_word (w : BitVec 32) (a : ℕ) (h : w.toNat = a) (ha : a < 2 ^ 31) :
    (FloatOps.sitofp .f32 w : Ideal .f32) = (((a : ℕ) : ℝ) : EReal) := by
  show ((w.toInt : ℝ) : EReal) = _
  rw [BitVec.toInt_eq_toNat_of_lt (by omega), h, Int.cast_natCast]

/-- The low four bits of the word of `n`. -/
theorem low_bits (w : BitVec 32) : (IntOp.andi w 15#32).toNat = w.toNat % 16 := by
  show (w &&& 15#32).toNat = _
  rw [BitVec.toNat_and]
  exact Nat.and_two_pow_sub_one_eq_mod w.toNat 4

/-- The word of a small `n` shifted right. -/
theorem shifted (n s : ℕ) (hn : n < 4096) (hs : s < 32) :
    (IntOp.shrsi .vector (BitVec.ofNat 32 n) (BitVec.ofNat 32 s)).toNat = n / 2 ^ s := by
  have hs' : (BitVec.ofNat 32 s).toNat = s := by rw [BitVec.toNat_ofNat]; omega
  have hn' : (BitVec.ofNat 32 n).toNat = n := by rw [BitVec.toNat_ofNat]; omega
  unfold IntOp.shrsi
  rw [if_pos (by omega), BitVec.sshiftRight_eq', hs', BitVec.toNat_sshiftRight_of_msb_false, hn', Nat.shiftRight_eq_div_pow]
  rw [BitVec.msb_eq_false_iff_two_mul_lt, hn']
  omega

/-- A digit read as a real, times ten, plus 200. -/
theorem lattice_word (w : BitVec 32) (a : ℕ) (h : w.toNat = a) (ha : a < 2 ^ 31) :
    Ideal.ofBits .f32 0x43480000#32 + Ideal.ofBits .f32 0x41200000#32 * (FloatOps.sitofp .f32 w : Ideal .f32)
      = ((200 + 10 * (a : ℝ) : ℝ) : EReal) := by
  rw [real_of_word w a h ha, word_200, word_10, ← EReal.coe_mul, ← EReal.coe_add]

/-- The first lattice coordinate of atom `n`. -/
theorem lattice_word0 (n : ℕ) (hn : n < 4096) :
    Ideal.ofBits .f32 0x43480000#32 + Ideal.ofBits .f32 0x41200000#32
        * (FloatOps.sitofp .f32 (IntOp.andi (BitVec.ofNat 32 n) 15#32) : Ideal .f32)
      = ((lattice n 0 : ℝ) : EReal) :=
  lattice_word _ (n % 16) (by rw [low_bits, BitVec.toNat_ofNat]; omega) (by omega)

/-- The second lattice coordinate of atom `n`. -/
theorem lattice_word1 (n : ℕ) (hn : n < 4096) :
    Ideal.ofBits .f32 0x43480000#32 + Ideal.ofBits .f32 0x41200000#32
        * (FloatOps.sitofp .f32 (IntOp.andi (IntOp.shrsi .vector (BitVec.ofNat 32 n) 4#32) 15#32) : Ideal .f32)
      = ((lattice n 1 : ℝ) : EReal) :=
  lattice_word _ (n / 16 % 16) (by rw [low_bits, shifted n 4 hn (by omega)]; norm_num) (by omega)

/-- The third lattice coordinate of atom `n`. -/
theorem lattice_word2 (n : ℕ) (hn : n < 4096) :
    Ideal.ofBits .f32 0x43480000#32 + Ideal.ofBits .f32 0x41200000#32
        * (FloatOps.sitofp .f32 (IntOp.shrsi .vector (BitVec.ofNat 32 n) 8#32) : Ideal .f32)
      = ((lattice n 2 : ℝ) : EReal) :=
  lattice_word _ (n / 256) (by rw [shifted n 8 hn (by omega)]; norm_num) (by omega)

end Cert.Pairs

end
-- ==== Proof.Block.lean ====
/-
  What the kernel's body leaves in one block of 256 rows, entry by entry: the kernel's function of the squared distance of
  the row's and the column's atoms, each put in its place.
-/
module

public import proofs.«01_k».proof.Proof.Words
public import proofs.«01_k».proof.Proof.Gen.KernelIdeal.Value
public import Idealize.ShloMosaic.Lib.Pointwise

@[expose] public section

noncomputable section

namespace Cert.KernelIdeal.RefValue

open Cert.KernelIdeal Cert.KernelIdeal.Gen Cert.Pairs Idealize.ShloMosaic

/-- Offsets of zero on both axes. -/
theorem zero2 : (![0, 0] : Fin 2 → Nat) = fun _ => 0 := by decide

/-- The named cutoff is `7² - eps`. -/
theorem named_thr2 : (Named.named κ "thr2" 0x42440000#32 : Ideal .f32) = ((thr2 : ℝ) : EReal) :=
  IdealRules.named_const.ideal_named_scalar _ _ _ _ rfl

/-- Entry `(r, l)` of the block that grid point `i` computes from a block of rows `x0` and all columns `x1`. -/
theorem out_apply (i : grid0.Coords) (x0 : Vec Ideal S256x3 .f32) (x1 : Vec Ideal S3x4096 .f32) (r : Fin 256) (l : Fin 4096) :
    out0_2 (F := Ideal) i x0 x1 (ix2 r l)
      = kernelCell (sqDist (place ((i 0).val * 256 + r.val) fun k => x0 (ix2 r k)) (place l.val fun k => x1 (ix2 k l))) := by
  have hi : (i 0).val < 16 := (i 0).isLt
  unfold_out out0_2
  unfold r0_0 r0_1 r0_2
  rw [View.canon_unit_zero zero2, View.ld_unit_zero zero2, View.ld_unit_zero zero2]
  unfold_payloads
  pointwise
  simp only [row_word, lattice_word0 ((i 0).val * 256 + r.val) (by omega), lattice_word1 ((i 0).val * 256 + r.val) (by omega),
    lattice_word2 ((i 0).val * 256 + r.val) (by omega), lattice_word0 l.val l.isLt, lattice_word1 l.val l.isLt,
    lattice_word2 l.val l.isLt, word_999, word_eps, named_thr2]
  rfl

end Cert.KernelIdeal.RefValue

end
-- ==== Proof.Array.lean ====
/-
  What the kernel's result array holds when the 16 blocks of 256 rows are written: at every pair of atoms the kernel's function
  of their squared distance, each atom put in its place.
-/
module

public import proofs.«01_k».proof.Proof.Block
public import Idealize.ShloMosaic.Lib.Pipeline.ValueKit
public import Idealize.ShloMosaic.Lib.StableHlo.ReadAt

@[expose] public section

noncomputable section

namespace Cert.KernelIdeal.RefValue

open Cert.KernelIdeal Cert.KernelIdeal.Gen Cert.Pairs Idealize.ShloMosaic Idealize.ShloMosaic.TcCoe Idealize.SL.Sem

variable (m : (ℓ : Loc nD τ sig) → Buf (Elt Ideal) ℓ) (ρ : Dev nD → PrngReg)

/-- The coordinates of atom `n` in device `c`'s first argument. -/
def atom (c : Dev nD) (n : Fin 4096) (k : Fin 3) : EReal := m ((c : Thread nD τ).loc main_arg0) (ix2 n k)

/-- The array that the kernel is shown to leave. -/
def result (c : Dev nD) : Buf (Elt Ideal) ((c : Thread nD τ).loc main_v1) := fun i =>
  kernelCell (sqDist (place (i 0).val (atom m c (i 0))) (place (i 1).val (atom m c (i 1))))

/-- Grid point `t` reads block `t` of the rows and all the columns, and writes block `t` of the result. -/
theorem index_eq : ∀ t : Fin cfg0.N, win0_0.index t = ![t.val, 0] ∧ win0_1.index t = ![0, 0] ∧ win0_2.index t = ![t.val, 0]
    ∧ ((grid0.coords t) 0).val = t.val :=
  (by decide +kernel : ∀ t : Fin grid0.N, win0_0.index t = ![t.val, 0] ∧ win0_1.index t = ![0, 0] ∧ win0_2.index t = ![t.val, 0]
    ∧ ((grid0.coords t) 0).val = t.val)

/-- Row `r` of the block of rows at point `t` is atom `256 t + r`. -/
theorem rows_block (c : Dev nD) (t : Fin cfg0.N) (r : Fin 256) (n : Fin 4096) (h : n.val = t.val * 256 + r.val) :
    (fun k : Fin 3 => iblk m c 0 t (ix2 r k)) = atom m c n := by
  funext k
  unfold atom
  blk_ext [iblk, V, (index_eq t).1]

/-- The array that the kernel reads its columns from is the transpose of the first argument. -/
theorem columns_apply (c : Dev nD) (n : Fin 4096) (k : Fin 3) : V m c main_v0 (ix2 k n) = atom m c n k := by
  unfold V atom
  after_reads_at

/-- Column `n` of the block of columns at any point is atom `n`. -/
theorem columns_block (c : Dev nD) (t : Fin cfg0.N) (n : Fin 4096) : (fun k : Fin 3 => iblk m c 1 t (ix2 k n)) = atom m c n := by
  funext k
  rw [← columns_apply]
  blk_ext [iblk, (index_eq t).2.1]

/-- THE ARRAY: after the last grid point the kernel's result array is `result`. -/
theorem final (c : Dev nD) : (dats m 0 c).arrAt 2 cfg0.N = result m c := by
  refine (dats m 0 c).arrAt_eq_of_covers 2 _ (by decide +kernel) fun t hf y => ?_
  blk_simp
  rw [after0_2]
  obtain ⟨r, l, rfl⟩ : ∃ (r : Fin 256) (l : Fin 4096), y = ix2 r l := ⟨y 0, y 1, eq_ix2 y⟩
  have ht : t.val < 16 := t.isLt
  have e : (win0_2.blk t).view.emb (ix2 r l) = (ix2 (⟨t.val * 256 + r.val, by omega⟩ : Fin 4096) l : S4096x4096.Idx) := by
    blk_ext [(index_eq t).2.2.1]
  rw [e, out_apply, (index_eq t).2.2.2, rows_block m c t r ⟨t.val * 256 + r.val, by omega⟩ rfl, columns_block m c t l]
  rfl

/-- The kernel's run: the result array is `result`, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final m c), (h c).2.1, (h c).2.2⟩) (Value.run_blocks m ρ)

end Cert.KernelIdeal.RefValue

end
-- ==== Proof.Inputs.lean ====
/-
  The precondition and the mask read at an atom and at a pair of atoms.
-/
module

public import proofs.«01_k».proof.Proof.Consts
public import proofs.«01_k».proof.Proof.Gen.On_compared
public import proofs.«01_k».proof.Proof.Gen.Pre_atoms_in_order
public import Idealize.ShloMosaic.Lib.Pointwise
public import Idealize.ShloMosaic.Lib.Routing.OpsOrder
public import Idealize.ShloMosaic.Lib.ReduceAll
public import Idealize.ShloMosaic.Lib.StableHlo.Predicate

@[expose] public section

noncomputable section

namespace Cert.Pairs

open Idealize.ShloMosaic

/-- Under the precondition entry `n` of `atom_number` is the word of `n`. -/
theorem atom_number_eq (x : FVec Ideal Cert.Pre_atoms_in_order.S4096x3 .f32) (w : IVec Cert.Pre_atoms_in_order.S4096 32)
    (h : Cert.Pre_atoms_in_order.fn (F := Ideal) x w = fun _ => 1#1) (n : Fin 4096) : w (ix1 n) = BitVec.ofNat 32 n.val := by
  have h0 := congrFun h ix0
  dsimp only [Cert.Pre_atoms_in_order.fn] at h0
  have : Subsingleton Cert.Pre_atoms_in_order.S_.Idx := ⟨fun a b => funext fun i => i.elim0⟩
  exact StableHlo.Predicate.cmpi_eq_iff.1 (Host.reduce_andi_all _ _ _ _ _ h0 (ix1 n))

/-- An «or» of two bits is set when one of them is, -/
theorem or_bit (a b : BitVec 1) : IntOp.ori a b = 1#1 ↔ a = 1#1 ∨ b = 1#1 := by revert a b; decide

/-- and an «and» when both are. -/
theorem and_bit (a b : BitVec 1) : IntOp.andi a b = 1#1 ↔ a = 1#1 ∧ b = 1#1 := by revert a b; decide

/-- The bit of a decided statement is set when the statement holds. -/
theorem bit_iff (p : Prop) [Decidable p] : BitVec.ofBool (decide p) = 1#1 ↔ p := by
  rw [StableHlo.Predicate.ofBool_eq_one_iff, decide_eq_true_iff]

/-- The mask at the pair `(r, l)`: neither atom is padded, or they are two atoms each with a coordinate outside [193, 357]. -/
theorem compared_iff (x : FVec Ideal Cert.On_compared.S4096x3 .f32) (w : IVec Cert.On_compared.S4096 32) (r l : Fin 4096)
    (h : Cert.On_compared.fn (F := Ideal) x w (ix2 r l) = 1#1) :
    (x (ix2 r 0) ≠ ((999 : ℝ) : EReal) ∧ x (ix2 l 0) ≠ ((999 : ℝ) : EReal))
      ∨ ((∃ k : Fin 3, x (ix2 r k) < ((193 : ℝ) : EReal) ∨ ((357 : ℝ) : EReal) < x (ix2 r k))
          ∧ (∃ k : Fin 3, x (ix2 l k) < ((193 : ℝ) : EReal) ∨ ((357 : ℝ) : EReal) < x (ix2 l k))) ∧ r.val ≠ l.val := by
  pointwise [Cert.On_compared.fn, Cert.On_compared.fn_part1] at h
  simp only [or_bit, and_bit, bit_iff, Routing.fold_ori, Finset.mem_univ, true_and, word_999, word_193, word_357] at h
  refine h.imp id fun h' => ⟨h'.1, fun e => ?_⟩
  have h2 := h'.2
  rw [e] at h2
  exact absurd h2 (by simp [IntOp.cmpi])

end Cert.Pairs

end
-- ==== Proof.Reference.lean ====
/-
  What the reference computes at a pair of atoms, when `atom_number` counts up from 0: taking the rows that it names changes
  nothing, and the entry is the reference's function of the two atoms' coordinates.
-/
module

public import proofs.«01_k».proof.Proof.Distance
public import proofs.«01_k».proof.Proof.Inputs
public import proofs.«01_k».proof.Proof.Gen.ReferenceIdeal.Run
public import Idealize.ShloMosaic.Lib.Routing.Ops
public import Idealize.ShloMosaic.Lib.Routing.OpsPair

@[expose] public section

noncomputable section

namespace Cert.ReferenceIdeal.RefValue

open Cert.ReferenceIdeal Cert.ReferenceIdeal.Gen Cert.Pairs Idealize.ShloMosaic Idealize.ShloMosaic.TcCoe

/-- The word of an atom's number has that number as its unsigned value. -/
theorem toNat_atom (n : Fin 4096) : (BitVec.ofNat 32 n.val).toNat = n.val := by
  rw [BitVec.toNat_ofNat]; omega

/-- An atom's number is not negative, so that it is not wrapped. -/
theorem wrap_atom (n : Fin 4096) (a : BitVec 32) :
    Scalar.select (IntOp.cmpi .slt (BitVec.ofNat 32 n.val) 0#32) a (BitVec.ofNat 32 n.val) = BitVec.ofNat 32 n.val :=
  Routing.wrap_of_lt _ a (by rw [toNat_atom]; omega)

/-- An atom's number is in range. -/
theorem in_range (n : Fin 4096) :
    IntOp.andi (IntOp.cmpi .sge (BitVec.ofNat 32 n.val) 0#32) (IntOp.cmpi .sle (BitVec.ofNat 32 n.val) 4095#32) = 1#1 := by
  have h := toNat_atom n
  rw [and_bit, StableHlo.Predicate.sge_iff_toNat (by omega) (by decide), StableHlo.Predicate.sle_iff_toNat (by omega) (by decide), h]
  exact ⟨Nat.zero_le _, by show n.val ≤ 4095; omega⟩

/-- A test that holds at the one coordinate of an index holds. -/
theorem all_set : Finset.fold IntOp.andi (1#1) (fun _ : Fin 1 => 1#1) Finset.univ = 1#1 := by decide

/-- A choice by a set bit is the first value. -/
theorem select_set (a b : EReal) : Scalar.select 1#1 a b = a := rfl

/-- A bit read as a number is 1 where it is set and 0 where it is not. -/
theorem uitofp_bit (b : BitVec 1) : FloatOps.uitofp (F := Ideal) FTy.f32 b = if b = 1#1 then 1 else 0 := by
  have h : b = 0#1 ∨ b = 1#1 := by revert b; decide
  rcases h with rfl | rfl
  · exact (congrArg ((↑) : ℝ → EReal) (by norm_num : (((0#1 : BitVec 1).toNat : ℕ) : ℝ) = 0)).trans (by simp)
  · exact (congrArg ((↑) : ℝ → EReal) (by norm_num : (((1#1 : BitVec 1).toNat : ℕ) : ℝ) = 1)).trans (by simp)

/-- The rows that `atom_number` names are the rows themselves. -/
theorem gather_atom (x : FVec Ideal S4096x3 .f32) (w : IVec S4096 32) (hw : ∀ n : Fin 4096, w (ix1 n) = BitVec.ofNat 32 n.val)
    (n : Fin 4096) (k : Fin 3) :
    Host.gather gather_S4096x3_S4096x1_S4096x3_1_0_n_n_0_1_13 x
        (broadcastInDim S4096x1 ![0] bcast_S4096_S4096x1_0
          (select (cmpi .slt w (broadcastInDim S4096 ![] bcast_S_S4096 (constantI S_ 32 0#32)))
            (addi w (broadcastInDim S4096 ![] bcast_S_S4096 (constantI S_ 32 4096#32))) w)) (ix2 n k)
      = x (ix2 n k) := by
  rw [ix2_eq_valueIdx]
  refine Routing.gather_row gather_S4096x3_S4096x1_S4096x3_1_0_n_n_0_1_13 rfl rfl rfl rfl rfl x _ n k n ?_ (by norm_num)
  rw [← ix2_eq_valueIdx]
  pointwise
  rw [hw, wrap_atom]

variable (m : (ℓ : Loc nD τ sig) → Buf (Elt Ideal) ℓ)

/-- The coordinates of atom `n` in device `c`'s first argument. -/
def atom (c : Dev nD) (n : Fin 4096) (k : Fin 3) : EReal := m ((c : Thread nD τ).loc main_arg0) (ix2 n k)

/-- THE REFERENCE at the pair `(r, l)`, when `atom_number` counts up from 0. -/
theorem res_apply (c : Dev nD) (hw : ∀ n : Fin 4096, m ((c : Thread nD τ).loc main_arg1) (ix1 n) = BitVec.ofNat 32 n.val) (r l : Fin 4096) :
    Value.res_out0 (F := Ideal) m c (ix2 r l) = refCell (atom m c r) (atom m c l) := by
  unfold Value.res_out0 Value.res_main_v24
  pointwise
  simp only [gather_atom _ _ hw, hw, wrap_atom, in_range, all_set, select_set, uitofp_bit, and_bit, bit_iff, word_999, word_eps, word_7,
    Fin.sum_univ_three]
  rfl

end Cert.ReferenceIdeal.RefValue

end
-- ==== Proof.lean ====
/-
  The proof of `Cert.Claim`: the three runs end with every argument unchanged and every semaphore at zero, the ideal kernel differs
  from the kernel by one named constant, and at every pair of atoms that the mask compares, when `atom_number` counts up from 0,
  the ideal kernel's result is the ideal reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_atoms_in_order
public import proofs.«01_k».proof.Proof.Gen.On_compared
public import proofs.«01_k».proof.Proof.Array
public import proofs.«01_k».proof.Proof.Inputs
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The ideal reference's run leaves its arguments unchanged and every semaphore at zero. -/
theorem reference_frame : Cert.quiescent_ReferenceIdeal := fun m ρ _ =>
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

/-- At every pair of atoms that the mask compares, when `atom_number` counts up from 0, the ideal kernel leaves what the ideal
reference leaves. -/
theorem equation : Cert.algebraic_KernelIdeal_ReferenceIdeal_on_compared_pre_atoms_in_order := by
  intro m ρ m' ρ' hpre hin
  refine ⟨fun c => Cert.KernelIdeal.RefValue.result m c,
    (θ_run Cert.KernelIdeal.defs _ _).mono (fun r h c => ⟨fun i _ => congrFun (h c).1 i, (h c).2⟩) (Cert.KernelIdeal.RefValue.run m ρ),
    (θ_run Cert.ReferenceIdeal.defs _ _).mono (fun r h c => ⟨fun i hi => (congrFun (h c).1 i).trans ?_, (h c).2⟩)
      (Cert.ReferenceIdeal.Value.run (F := Ideal) m' ρ')⟩
  obtain ⟨a, b, rfl⟩ : ∃ (a b : Fin 4096), i = ix2 a b := ⟨i 0, i 1, eq_ix2 i⟩
  have hw : ∀ n : Fin 4096, m' ((c.tc : Thread Cert.ReferenceIdeal.nD Cert.ReferenceIdeal.τ).loc Cert.ReferenceIdeal.main_arg1) (ix1 n) = BitVec.ofNat 32 n.val := fun n =>
    (congrFun (hin c).2 (ix1 n)).trans (Cert.Pairs.atom_number_eq _ _ (hpre c) n)
  have ha : Cert.ReferenceIdeal.RefValue.atom m' c = Cert.KernelIdeal.RefValue.atom m c :=
    funext fun n => funext fun k => congrFun (hin c).1 (ix2 n k)
  refine (Cert.ReferenceIdeal.RefValue.res_apply m' c hw a b).trans ?_
  rw [ha]
  exact (Cert.Pairs.cell_eq a.val b.val a.isLt b.isLt _ _ (Cert.Pairs.compared_iff _ _ a b hi)).symm

/-- THE CLAIM. -/
theorem claim : Cert.Claim :=
  ⟨Cert.Kernel.Gen.facts, Cert.KernelIdeal.Gen.facts, Cert.ReferenceIdeal.Gen.facts, Cert.Pre_atoms_in_order.Gen.facts,
    Cert.On_compared.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "thr2" .f32 0x42440000#32
      ((112986307451468697805 / 2305843009213693952 : ℝ) : EReal) rfl,
    equation⟩

end Cert.Proof

end
